-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_problem_thresholds [hPre_problem_thresholds : Cert.Pre_problem_thresholds.Facts] (m : (ℓ : Loc Cert.KernelIdeal.nD Cert.KernelIdeal.τ Cert.KernelIdeal.sig) → Buf (Elt Ideal) ℓ) : Prop :=
  ∀ c : Dev Cert.KernelIdeal.nD,
    (Cert.Pre_problem_thresholds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_problem_thresholds [hPre_problem_thresholds : Cert.Pre_problem_thresholds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_problem_thresholds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_problem_thresholds [hKernelIdeal : Cert.KernelIdeal.Facts] [hPre_problem_thresholds : Cert.Pre_problem_thresholds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_problem_thresholds m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_problem_thresholds [hReferenceIdeal : Cert.ReferenceIdeal.Facts] [hPre_problem_thresholds : Cert.Pre_problem_thresholds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_problem_thresholds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_problem_thresholds [hKernelIdeal : Cert.KernelIdeal.Facts] [hReferenceIdeal : Cert.ReferenceIdeal.Facts] [hPre_problem_thresholds : Cert.Pre_problem_thresholds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_problem_thresholds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_problem_thresholds : Cert.Pre_problem_thresholds.Facts),
    quiescent_Kernel (hKernel := hKernel)
    ∧ quiescent_KernelIdeal (hKernelIdeal := hKernelIdeal)
    ∧ quiescent_KernelIdeal_pre_problem_thresholds (hKernelIdeal := hKernelIdeal) (hPre_problem_thresholds := hPre_problem_thresholds)
    ∧ quiescent_ReferenceIdeal (hReferenceIdeal := hReferenceIdeal)
    ∧ quiescent_ReferenceIdeal_pre_problem_thresholds (hReferenceIdeal := hReferenceIdeal) (hPre_problem_thresholds := hPre_problem_thresholds)
    ∧ preserves_Kernel_KernelIdeal
    ∧ algebraic_KernelIdeal_ReferenceIdeal_pre_problem_thresholds (hKernelIdeal := hKernelIdeal) (hReferenceIdeal := hReferenceIdeal) (hPre_problem_thresholds := hPre_problem_thresholds)
-- ==== Pre_problem_thresholds.lean ====
abbrev S4194304x4 : Shape := ⟨2, ![4194304, 4]⟩
abbrev S15 : Shape := ⟨1, ![15]⟩
abbrev S_ : Shape := ⟨0, ![]⟩

class Facts : Prop where
  reducesTo_S15_S_d0 : S15.ReducesTo [0] S_
  h_S_ : 0 < S_.numel

variable [Facts]

noncomputable abbrev lit0 : Fin 15 → BitVec 32 := fun
  | 0 => 0xBFE00000#32 | 1 => 0xBFC00000#32 | 2 => 0xBFA00000#32 | 3 => 0xBF800000#32 | 4 => 0xBF400000#32 | 5 => 0xBF000000#32 | 6 => 0xBE800000#32 | 7 => 0x00000000#32
  | 8 => 0x3E800000#32 | 9 => 0x3F000000#32 | 10 => 0x3F400000#32 | 11 => 0x3F800000#32 | 12 => 0x3FA00000#32 | 13 => 0x3FC00000#32 | 14 => 0x3FE00000#32
  | _ => 0#32

def fn {F : FTy → Type} [FloatOps F] (main_arg0 : FVec F S4194304x4 .f32) (main_arg1 : FVec F S15 .f32) : IVec S_ 1 :=
  let main_cst : FVec F S15 .f32 := fun i => FloatOps.ofBits .f32 (lit0 (S15.rowMajor i))
  let main_v0 : IVec S15 1 := cmpf .oeq main_arg1 main_cst
  let main_c : IVec S_ 1 := constantI S_ 1 1#1
  let main_v1 : IVec S_ 1 := (fun x v => Host.reduce IntOp.andi x v reducesTo_S15_S_d0 h_S_) main_v0 main_c
  main_v1
-- ==== Kernel.lean ====
abbrev S4194304x4 : Shape := ⟨2, ![4194304, 4]⟩
abbrev S15 : Shape := ⟨1, ![15]⟩
abbrev S4x4194304 : Shape := ⟨2, ![4, 4194304]⟩
abbrev S4194304 : Shape := ⟨1, ![4194304]⟩
abbrev S4x524288 : Shape := ⟨2, ![4, 524288]⟩
abbrev S524288 : Shape := ⟨1, ![524288]⟩
abbrev S1x524288 : Shape := ⟨2, ![1, 524288]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S4194304x4, .f32⟩
  | .hbm, ⟨1, _⟩ => ⟨S15, .f32⟩
  | .hbm, ⟨2, _⟩ => ⟨S4x4194304, .f32⟩
  | .hbm, ⟨3, _⟩ => ⟨S4194304, .i32⟩
  | .hbm, ⟨4, _⟩ => ⟨S4194304, .i32⟩
  | .hbm, ⟨5, _⟩ => ⟨S4194304, .i64⟩
  | .hbm, ⟨6, _⟩ => ⟨S4194304, .i64⟩
  | .hbm, ⟨7, _⟩ => ⟨S_, .i64⟩
  | .hbm, ⟨8, _⟩ => ⟨S4194304, .i64⟩
  | .hbm, ⟨9, _⟩ => ⟨S4194304, .i64⟩
  | .hbm, ⟨10, _⟩ => ⟨S4194304, .i64⟩
  | .local _ .vmem, ⟨0, _⟩ => ⟨S4x524288, .f32⟩
  | .local _ .vmem, ⟨1, _⟩ => ⟨S4x524288, .f32⟩
  | .local _ .vmem, ⟨2, _⟩ => ⟨S524288, .i32⟩
  | .local _ .vmem, ⟨3, _⟩ => ⟨S524288, .i32⟩
  | .local _ .vmem, ⟨4, _⟩ => ⟨S524288, .i32⟩
  | .local _ .vmem, ⟨5, _⟩ => ⟨S524288, .i32⟩
  | _, _ => ⟨S4194304x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4x524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S524288 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S524288 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4194304x4 : Shape := ⟨2, ![4194304, 4]⟩
abbrev S15 : Shape := ⟨1, ![15]⟩
abbrev S1 : Shape := ⟨1, ![1]⟩
abbrev S4194304x4x1 : Shape := ⟨3, ![4194304, 4, 1]⟩
abbrev S1x1x15 : Shape := ⟨3, ![1, 1, 15]⟩
abbrev S4194304x4x15 : Shape := ⟨3, ![4194304, 4, 15]⟩
abbrev S_ : Shape := ⟨0, ![]⟩
abbrev S4 : Shape := ⟨1, ![4]⟩
abbrev S1x4 : Shape := ⟨2, ![1, 4]⟩
abbrev S4194304 : Shape := ⟨1, ![4194304]⟩

abbrev nBuf : Space → Nat
  | .hbm => 38
  | .vmem => 0
  | .smem => 0
  | _ => 0

abbrev bufTy : (tb : Table) → Fin (tcTables nBuf tb) → BufTy
  | .hbm, ⟨0, _⟩ => ⟨S4194304x4, .f32⟩
  | .hbm, ⟨1, _⟩ => ⟨S15, .f32⟩
  | .hbm, ⟨2, _⟩ => ⟨S1, .f32⟩
  | .hbm, ⟨3, _⟩ => ⟨S4194304x4x1, .f32⟩
  | .hbm, ⟨4, _⟩ => ⟨S1x1x15, .f32⟩
  | .hbm, ⟨5, _⟩ => ⟨S4194304x4x15, .f32⟩
  | .hbm, ⟨6, _⟩ => ⟨S4194304x4x15, .f32⟩
  | .hbm, ⟨7, _⟩ => ⟨S4194304x4x15, .i1⟩
  | .hbm, ⟨8, _⟩ => ⟨S4194304x4x15, .i32⟩
  | .hbm, ⟨9, _⟩ => ⟨S_, .i32⟩
  | .hbm, ⟨10, _⟩ => ⟨S4194304x4, .i32⟩
  | .hbm, ⟨11, _⟩ => ⟨S4, .i32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4194304x4, .f32⟩
  | .hbm, ⟨17, _⟩ => ⟨S1x4, .f32⟩
  | .hbm, ⟨18, _⟩ => ⟨S4194304x4, .f32⟩
  | .hbm, ⟨19, _⟩ => ⟨S4194304x4, .f32⟩
  | .hbm, ⟨20, _⟩ => ⟨S_, .f32⟩
  | .hbm, ⟨21, _⟩ => ⟨S4194304, .f32⟩
  | .hbm, ⟨22, _⟩ => ⟨S_, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S_, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .i32⟩
  | .hbm, ⟨31, _⟩ => ⟨S4194304, .i32⟩
  | .hbm, ⟨32, _⟩ => ⟨S4194304, .i64⟩
  | .hbm, ⟨33, _⟩ => ⟨S_, .i64⟩
  | .hbm, ⟨34, _⟩ => ⟨S4194304, .i64⟩
  | .hbm, ⟨35, _⟩ => ⟨S4194304, .i64⟩
  | .hbm, ⟨36, _⟩ => ⟨S4194304, .i64⟩
  | .hbm, ⟨37, _⟩ => ⟨S4194304, .i64⟩
  | _, _ => ⟨S4194304x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.Bins.lean ====
/-
  The arithmetic of the bins: the number of thresholds below a value, the kernel's closed form for it, and the four
  counts of a row packed into one 64-bit word.
-/
module

public import Idealize.ShloMosaic.PureOps.Ideal
public import Idealize.ShloMosaic.Lib.IdealHost

@[expose] public section

noncomputable section

namespace Cert.Bins

open Idealize.ShloMosaic

/-! ## The bin of a value -/

/-- The `j`-th threshold: `-7/4, -6/4, …, 7/4`. -/
def threshold (j : Fin 15) : ℝ := ((j.val : ℝ) - 7) / 4

/-- The bin of `x`: how many thresholds are below `x`. -/
def bin (x : EReal) : ℕ := (Finset.univ.filter fun j : Fin 15 => (threshold j : EReal) < x).card

/-- A bin is at most the number of thresholds. -/
theorem bin_le (x : EReal) : bin x ≤ 15 := by
  unfold bin
  exact (Finset.card_filter_le _ _).trans_eq (by simp)

/-- The kernel's closed form of the bin: four times the value, rounded up, clamped to `[-7, 8]`, moved to `[0, 15]`. -/
def word (x : EReal) : BitVec 32 :=
  Ideal.fptosi 32 (min ((8 : ℝ) : EReal) (max ((-7 : ℝ) : EReal) (Ideal.liftRound Int.ceil (x * ((4 : ℝ) : EReal)))) + ((7 : ℝ) : EReal))

/-- A natural below `2 ^ 31` as an extended real converts to the word that holds it. -/
theorem fptosi_natCast {n : ℕ} (hn : n < 2 ^ 31) : Ideal.fptosi 32 ((n : ℝ) : EReal) = BitVec.ofNat 32 n := by
  rw [Ideal.fptosi, Ideal.toIntClamped_coe, if_pos (by positivity), Int.floor_natCast]
  have h : max (-((2 ^ (32 - 1) : ℕ) : ℤ)) (min (((2 ^ (32 - 1) : ℕ) : ℤ) - 1) (n : ℤ)) = (n : ℤ) := by
    norm_num at hn ⊢
    omega
  rw [h, BitVec.ofInt_natCast]

/-- A threshold is below a real exactly when its number, less seven, is below four times the real rounded up. -/
theorem threshold_lt_coe (j : Fin 15) (r : ℝ) : ((threshold j : ℝ) : EReal) < (r : EReal) ↔ (j.val : ℤ) - 7 < ⌈r * 4⌉ := by
  rw [EReal.coe_lt_coe_iff, Int.lt_ceil, threshold]
  push_cast
  constructor <;> intro h <;> linarith

/-- Of the numbers `-7, …, 7`, those below an integer `k` are as many as `k`, clamped to `[-7, 8]`, is above `-7`. -/
theorem card_below (k : ℤ) :
    (((Finset.univ.filter fun j : Fin 15 => (j.val : ℤ) - 7 < k).card : ℕ) : ℤ) = min 8 (max (-7) k) + 7 := by
  by_cases h1 : k ≤ -7
  · rw [Finset.filter_false_of_mem fun j _ => by omega, Finset.card_empty]
    omega
  by_cases h2 : 8 ≤ k
  · rw [Finset.filter_true_of_mem fun j _ => by have := j.isLt; omega, Finset.card_univ, Fintype.card_fin]
    omega
  have h3 : -7 < k := by omega
  have h4 : k < 8 := by omega
  interval_cases k <;> rfl

/-- The kernel's closed form is the bin. -/
theorem word_eq (x : EReal) : word x = BitVec.ofNat 32 (bin x) := by
  have hb : min ((8 : ℝ) : EReal) (max ((-7 : ℝ) : EReal) (Ideal.liftRound Int.ceil (x * ((4 : ℝ) : EReal)))) + ((7 : ℝ) : EReal)
      = ((bin x : ℝ) : EReal) := by
    induction x with
    | bot =>
      rw [EReal.bot_mul_coe_of_pos (by norm_num), Ideal.liftRound_bot, max_eq_left bot_le,
        min_eq_right (by exact_mod_cast (by norm_num : (-7 : ℝ) ≤ 8)), ← EReal.coe_add, bin,
        Finset.filter_false_of_mem fun j _ => not_lt_bot]
      norm_num
    | top =>
      rw [EReal.top_mul_coe_of_pos (by norm_num), Ideal.liftRound_top, max_eq_right le_top, min_eq_left le_top, ← EReal.coe_add, bin,
        Finset.filter_true_of_mem fun j _ => EReal.coe_lt_top _, Finset.card_univ, Fintype.card_fin]
      norm_num
    | coe r =>
      have hc : bin (r : EReal) = (Finset.univ.filter fun j : Fin 15 => (j.val : ℤ) - 7 < ⌈r * 4⌉).card :=
        congrArg Finset.card (Finset.filter_congr fun j _ => threshold_lt_coe j r)
      have hk := card_below ⌈r * 4⌉
      rw [← hc] at hk
      have hk' : (bin (r : EReal) : ℝ) = min 8 (max (-7) (⌈r * 4⌉ : ℝ)) + 7 := by exact_mod_cast congrArg (fun z : ℤ => (z : ℝ)) hk
      rw [← EReal.coe_mul, Ideal.liftRound_coe, hk', EReal.coe_add, EReal.coe_strictMono.monotone.map_min,
        EReal.coe_strictMono.monotone.map_max]
  rw [word, hb, fptosi_natCast (lt_of_le_of_lt (bin_le x) (by norm_num))]

/-! ## Four bins in one word -/

/-- Four bins as the digits of a number to the base `2 ^ 16`. -/
def flat (n : Fin 4 → ℕ) : ℕ := n 0 + n 1 * 2 ^ 16 + n 2 * 2 ^ 32 + n 3 * 2 ^ 48

/-- Four bins take less than 52 bits. -/
theorem flat_lt {n : Fin 4 → ℕ} (h : ∀ l, n l ≤ 15) : flat n < 2 ^ 52 := by
  have h0 := h 0
  have h1 := h 1
  have h2 := h 2
  have h3 := h 3
  unfold flat
  omega

/-- Shifting and joining four small words gives the word of the number with those digits. -/
theorem pack (n : Fin 4 → ℕ) (h : ∀ l, n l ≤ 15) :
    BitVec.setWidth 64 (BitVec.ofNat 32 (n 0) ||| BitVec.ofNat 32 (n 1) <<< 16)
        ||| BitVec.setWidth 64 (BitVec.ofNat 32 (n 2) ||| BitVec.ofNat 32 (n 3) <<< 16) <<< 32
      = BitVec.ofNat 64 (flat n) := by
  have h0 := h 0
  have h1 := h 1
  have h2 := h 2
  have h3 := h 3
  have half (a b : ℕ) (ha : a ≤ 15) (hb : b ≤ 15) :
      (BitVec.ofNat 32 a ||| BitVec.ofNat 32 b <<< 16).toNat = a + b * 2 ^ 16 := by
    rw [BitVec.toNat_or, BitVec.toNat_shiftLeft, BitVec.toNat_ofNat, BitVec.toNat_ofNat, Nat.mod_eq_of_lt (by omega : a < 2 ^ 32),
      Nat.mod_eq_of_lt (by omega : b < 2 ^ 32), Nat.mod_eq_of_lt (by rw [Nat.shiftLeft_eq]; omega), Nat.or_comm,
      ← Nat.shiftLeft_add_eq_or_of_lt (by omega), Nat.shiftLeft_eq, Nat.add_comm]
  apply BitVec.eq_of_toNat_eq
  rw [BitVec.toNat_or, BitVec.toNat_shiftLeft, BitVec.toNat_setWidth, BitVec.toNat_setWidth, half _ _ h0 h1, half _ _ h2 h3,
    BitVec.toNat_ofNat, flat, Nat.mod_eq_of_lt (by omega : n 0 + n 1 * 2 ^ 16 < 2 ^ 64),
    Nat.mod_eq_of_lt (by omega : n 2 + n 3 * 2 ^ 16 < 2 ^ 64), Nat.mod_eq_of_lt (by rw [Nat.shiftLeft_eq]; omega), Nat.or_comm,
    ← Nat.shiftLeft_add_eq_or_of_lt (by omega), Nat.shiftLeft_eq, Nat.mod_eq_of_lt (by omega)]
  omega

/-- Two digits to the base `2 ^ 24`, each a 32-bit word, widened and recombined, give the 64-bit word of the number. -/
theorem digits {N : ℕ} (hN : N < 2 ^ 52) :
    BitVec.signExtend 64 (BitVec.ofNat 32 (N / 2 ^ 24)) * 16777216#64 + BitVec.signExtend 64 (BitVec.ofNat 32 (N % 2 ^ 24))
      = BitVec.ofNat 64 N := by
  have wide (a : ℕ) (ha : a < 2 ^ 31) : BitVec.signExtend 64 (BitVec.ofNat 32 a) = BitVec.ofNat 64 a := by
    rw [BitVec.signExtend_eq_setWidth_of_msb_false (by rw [BitVec.msb_eq_decide, BitVec.toNat_ofNat]; simp; omega)]
    apply BitVec.eq_of_toNat_eq
    rw [BitVec.toNat_setWidth, BitVec.toNat_ofNat, BitVec.toNat_ofNat, Nat.mod_eq_of_lt (by omega : a < 2 ^ 32)]
  rw [wide _ (by omega), wide _ (by omega), ← BitVec.ofNat_mul, ← BitVec.ofNat_add]
  congr 1
  omega

/-- A natural number as an extended real, divided by `2 ^ 24` and rounded down, is the quotient; what is left is the remainder. -/
theorem cut (N : ℕ) :
    Ideal.liftRound Int.floor (((N : ℝ) : EReal) * ((1 / 16777216 : ℝ) : EReal)) = (((N / 2 ^ 24 : ℕ) : ℝ) : EReal)
      ∧ ((N : ℝ) : EReal) - (((N / 2 ^ 24 : ℕ) : ℝ) : EReal) * ((16777216 : ℝ) : EReal) = (((N % 2 ^ 24 : ℕ) : ℝ) : EReal) := by
  have h : ((2 ^ 24 * (N / 2 ^ 24) + N % 2 ^ 24 : ℕ) : ℝ) = (N : ℝ) := congrArg _ (Nat.div_add_mod N (2 ^ 24))
  have hr : ((N % 2 ^ 24 : ℕ) : ℝ) < ((2 ^ 24 : ℕ) : ℝ) := Nat.cast_lt.2 (Nat.mod_lt N (by norm_num))
  have hr0 : (0 : ℝ) ≤ ((N % 2 ^ 24 : ℕ) : ℝ) := Nat.cast_nonneg _
  rw [Nat.cast_add, Nat.cast_mul] at h
  norm_num only [Nat.cast_ofNat, Nat.cast_pow] at h hr
  constructor
  · rw [← EReal.coe_mul, Ideal.liftRound_coe]
    have hq : ⌊(N : ℝ) * (1 / 16777216)⌋ = ((N / 2 ^ 24 : ℕ) : ℤ) := by
      rw [Int.floor_eq_iff, Int.cast_natCast]
      constructor <;> norm_num only <;> linarith
    rw [hq, Int.cast_natCast]
  · rw [← EReal.coe_mul, ← EReal.coe_sub]
    congr 1
    norm_num only
    linarith

end Cert.Bins
-- ==== Proof.KernelResult.lean ====
/-
  What the kernel's program returns: the two arrays of 32-bit words the pipelined region writes, read as bins of the
  rows of the first argument, and the 64-bit words packed from them after the region.
-/
module

public import proofs.«01_k».proof.Proof.Bins
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Result

open Cert.KernelIdeal Cert.KernelIdeal.Gen Idealize.ShloMosaic Idealize.ShloMosaic.TcCoe Idealize.SL.Sem
open Cert.Bins

variable (m : (ℓ : Loc nD τ sig) → Buf (Elt Ideal) ℓ) (ρ : Dev nD → PrngReg)

/-! ## The body's words at an index -/

/-- The constants of the kernel body, `4`, `-7`, `8` and `7`, as extended reals. -/
theorem literals : Ideal.ofBits .f32 1082130432#32 = ((4 : ℝ) : EReal) ∧ Ideal.ofBits .f32 3235905536#32 = ((-7 : ℝ) : EReal)
    ∧ Ideal.ofBits .f32 1090519040#32 = ((8 : ℝ) : EReal) ∧ Ideal.ofBits .f32 1088421888#32 = ((7 : ℝ) : EReal) := by
  refine ⟨?_, ?_, ?_, ?_⟩ <;> simp [Ideal.ofBits, Ideal.ieee, -EReal.coe_mul, -EReal.coe_neg] <;> norm_num

/-- Two bins side by side in a 32-bit word. -/
def half (a b : EReal) : BitVec 32 := BitVec.ofNat 32 (bin a) ||| BitVec.ofNat 32 (bin b) <<< 16

/-- The body's scalar expression for one word: the kernel's closed forms of two bins, the second shifted. -/
theorem half_eq (a b : EReal) :
    IntOp.ori
      (FloatOps.fptosi (F := Ideal) (φ := .f32) 32
        (min (Ideal.ofBits FTy.f32 1090519040#32)
            (max (Ideal.ofBits FTy.f32 3235905536#32) (Ideal.liftRound Int.ceil (a * Ideal.ofBits FTy.f32 1082130432#32)))
          + Ideal.ofBits FTy.f32 1088421888#32))
      (IntOp.shli ArithUnit.vector
        (FloatOps.fptosi (F := Ideal) (φ := .f32) 32
          (min (Ideal.ofBits FTy.f32 1090519040#32)
              (max (Ideal.ofBits FTy.f32 3235905536#32) (Ideal.liftRound Int.ceil (b * Ideal.ofBits FTy.f32 1082130432#32)))
            + Ideal.ofBits FTy.f32 1088421888#32))
        16#32) = half a b := by
  obtain ⟨h4, h7, h8, h7'⟩ := literals
  rw [h4, h7, h8, h7', half, ← word_eq, ← word_eq]
  rfl

/-- The first output block at an index: the bins of the input block's rows `0` and `1`. -/
theorem pay2_apply (P : Vec Ideal S4x524288 .f32) (y : S524288.Idx) : k0_pay2 P y = half (P (ix2 0 (y 0))) (P (ix2 1 (y 0))) := by
  pointwise [k0_pay2, k0_pay1]
  exact half_eq _ _

/-- The second output block at an index: the bins of the input block's rows `2` and `3`. -/
theorem pay3_apply (P : Vec Ideal S4x524288 .f32) (y : S524288.Idx) : k0_pay3 P y = half (P (ix2 2 (y 0))) (P (ix2 3 (y 0))) := by
  pointwise [k0_pay3, k0_pay1]
  exact half_eq _ _

/-! ## The two arrays the region writes -/

/-- The first argument array on a core. -/
abbrev points (c : Dev nD) : S4194304x4.Idx → EReal := m ((c : Thread nD τ).loc main_arg0)

/-- Before the region the kernel's operand is the first argument transposed. -/
theorem entry_apply (c : Dev nD) (l : Fin 4) (i : Fin 4194304) : (V m c main_v0 : S4x4194304.Idx → EReal) (ix2 l i) = points m c (ix2 i l) := by
  have h : (V m c main_v0 : S4x4194304.Idx → EReal) = transpose S4x4194304 [1, 0] (points m c) transposes_S4194304x4_S4x4194304_1_0 := by
    show StableHlo.after (List.flatten [hostOps0]) (fun b => m (c, b)) (Proc.devRef .tc main_v0) = _
    simp only [hostOps0, List.flatten_cons, List.flatten_nil, List.append_nil]
    after_results_simp
  rw [h]
  pointwise

/-- The blocks of the three windows move together: the input's by columns, the outputs' by entries. -/
theorem indices : ∀ t : Fin cfg0.N, win0_0.index t = ![0, (grid0.coords t 0).val] ∧ win0_1.index t = ![(grid0.coords t 0).val]
    ∧ win0_2.index t = ![(grid0.coords t 0).val] :=
  (by decide +kernel : ∀ t : Fin grid0.N, _)

/-- The input block at a grid point: column `k` of the block is row `524288 t + k` of the first argument. -/
theorem block_apply (c : Dev nD) (t : Fin cfg0.N) (l : Fin 4) (k : Fin 524288) (i : Fin 4194304)
    (hi : i.val = (grid0.coords t 0).val * 524288 + k.val) :
    (iblk m c 0 t : S4x524288.Idx → EReal) (ix2 l k) = points m c (ix2 i l) := by
  rw [← entry_apply]
  have e := (indices t).1
  blk_simp [iblk]
  blk_ext [e]

/-- The first output array: at `i`, the bins of the entries `0` and `1` of row `i`. -/
theorem low (c : Dev nD) : (dats m 0 c).arrAt 1 cfg0.N
    = fun i : S4194304.Idx => half (points m c (ix2 (i 0) 0)) (points m c (ix2 (i 0) 1)) := by
  refine (dats m 0 c).arrAt_eq_of_covers 1 _ (by decide +kernel) fun t hf y => ?_
  have e := (indices t).2.1
  blk_simp
  rw [after0_1]
  frame_out
  refine (pay2_apply _ y).trans (congrArg₂ half (block_apply m c t _ _ _ ?_) (block_apply m c t _ _ _ ?_)) <;> blk_simp [e] <;> rfl

/-- The second output array: at `i`, the bins of the entries `2` and `3` of row `i`. -/
theorem high (c : Dev nD) : (dats m 0 c).arrAt 2 cfg0.N
    = fun i : S4194304.Idx => half (points m c (ix2 (i 0) 2)) (points m c (ix2 (i 0) 3)) := by
  refine (dats m 0 c).arrAt_eq_of_covers 2 _ (by decide +kernel) fun t hf y => ?_
  have e := (indices t).2.2
  blk_simp
  rw [after0_2]
  frame_out
  refine (pay3_apply _ y).trans (congrArg₂ half (block_apply m c t _ _ _ ?_) (block_apply m c t _ _ _ ?_)) <;> blk_simp [e] <;> rfl

/-! ## The packed words and the run -/

/-- The four bins of a row. -/
def bins (x : S4194304x4.Idx → EReal) (i : Fin 4194304) (l : Fin 4) : ℕ := bin (x (ix2 i l))

/-- The result: at `i`, the 64-bit word whose 16-bit digits are the four bins of row `i`. -/
def packed (x : S4194304x4.Idx → EReal) : S4194304.Idx → BitVec 64 := fun i => BitVec.ofNat 64 (flat (bins x (i 0)))

/-- After the lines that follow the region, the result buffer holds the packed words. -/
theorem tail (c : Dev nD) : Pipeline.afterTail₀ cfgs (dats m) 0 (V0 m) [hostOps1] c main_v6 = packed (points m c) := by
  have h1 : Pipeline.withArrays (cfgs 0).spec c (V0 m c) (fun w => (dats m 0 c).arrAt w (cfgs 0).N) (Proc.devRef .tc main_v1_0)
      = (dats m 0 c).arrAt 1 cfg0.N := Pipeline.withArrays_arr spec0 launch0.win.arr_inj c (V0 m c) _ 1
  have h2 : Pipeline.withArrays (cfgs 0).spec c (V0 m c) (fun w => (dats m 0 c).arrAt w (cfgs 0).N) (Proc.devRef .tc main_v1_1)
      = (dats m 0 c).arrAt 2 cfg0.N := Pipeline.withArrays_arr spec0 launch0.win.arr_inj c (V0 m c) _ 2
  unfold Pipeline.afterTail₀
  simp only [hostOps1, List.flatten_cons, List.flatten_nil, List.append_nil]
  after_results_simp
  rw [h1, h2, low, high]
  funext i
  exact pack (bins (points m c) (i 0)) fun l => bin_le _

/-- The kernel's program runs, returns the packed bins of its first argument's rows, and leaves both arguments as they were. -/
theorem run : θ_run defs (onTc (τ := τ) (main (F := Ideal))) ⟨m, fun _ => 0, ρ⟩ fun r => ∀ c : Dev nD,
      r.2.mem ((c.tc : Thread nD τ).loc main_v6) = packed (points m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 (by decide) (by decide))).trans (tail m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Result
-- ==== Proof.ReferenceResult.lean ====
/-
  What the reference's program returns, when its second argument holds the fifteen thresholds: the reference's term read
  at an index, stage by stage — the counts of a row, their weighted sum, and its conversion to 64 bits in two digits.
-/
module

public import proofs.«01_k».proof.Proof.Bins
public import proofs.«01_k».proof.Proof.Gen.ReferenceIdeal.Run
public import Idealize.ShloMosaic.Lib.Pointwise
public import Idealize.ShloMosaic.Lib.IndicatorCount
public import Idealize.ShloMosaic.Lib.StableHlo.Predicate

@[expose] public section

set_option maxRecDepth 16384

noncomputable section

namespace Cert.ReferenceIdeal.Result

open Cert.ReferenceIdeal Cert.ReferenceIdeal.Gen Idealize.ShloMosaic Idealize.ShloMosaic.TcCoe Idealize.SL.Sem
open Cert.Bins

/-! ## The stages of the reference's term -/

/-- The reference's bins: for every entry of `x`, the sum over the thresholds of the comparisons' truth values. -/
def counts (x : FVec Ideal S4194304x4 .f32) (t : FVec Ideal S15 .f32) : IVec S4194304x4 32 :=
  Host.reduce IntOp.addi
    (extui 32
      (cmpf CmpFPredicate.olt
        (broadcastInDim S4194304x4x15 ![0, 1, 2] bcast_S1x1x15_S4194304x4x15_0_1_2 (broadcastInDim S1x1x15 ![2] bcast_S15_S1x1x15_2 t))
        (broadcastInDim S4194304x4x15 ![0, 1, 2] bcast_S4194304x4x1_S4194304x4x15_0_1_2
          (broadcastInDim S4194304x4x1 ![0, 1] bcast_S4194304x4_S4194304x4x1_0_1 x)))
      natLt_1_32)
    (constantI S_ 32 0#32) reducesTo_S4194304x4x15_S4194304x4_d2 h_S_

/-- The reference's flat bin: the sum over a row of its bins, weighted by the powers of `65536`. -/
def total (x : FVec Ideal S4194304x4 .f32) (t : FVec Ideal S15 .f32) : FVec Ideal S4194304 .f32 :=
  Host.reduceAdd
    (mulf (sitofp FTy.f32 (counts x t))
      (broadcastInDim S4194304x4 ![0, 1] bcast_S1x4_S4194304x4_0_1
        (broadcastInDim S1x4 ![1] bcast_S4_S1x4_1
          (Host.powf (broadcastInDim S4 ![0] bcast_S1_S4_0 (constant S1 FTy.f32 1199570944#32)) (sitofp FTy.f32 (iotaInDim S4 32 0))))))
    (constant S_ FTy.f32 0#32) reducesTo_S4194304x4_S4194304_d1 h_S_

/-- The base `2 ^ 24` at every row. -/
def base : FVec Ideal S4194304 .f32 := broadcastInDim S4194304 ![] bcast_S_S4194304 (constant S_ FTy.f32 1266679808#32)

/-- The conversion to 64 bits: the flat bin's two digits to the base `2 ^ 24`, converted to 32-bit words and recombined. -/
def asWords (f : FVec Ideal S4194304 .f32) : IVec S4194304 64 :=
  addi
    (muli (extsi 64 (fptosi 32 (Host.floor (Host.divf f base))) natLt_32_64)
      (broadcastInDim S4194304 ![] bcast_S_S4194304 (constantI S_ 64 16777216#64)))
    (extsi 64 (fptosi 32 (subf f (mulf (Host.floor (Host.divf f base)) base))) natLt_32_64)

/-! ## The stages at an index -/

/-- The constants of the reference, `65536` and `2 ^ 24`, as extended reals. -/
theorem literals : Ideal.ofBits .f32 1199570944#32 = ((65536 : ℝ) : EReal) ∧ Ideal.ofBits .f32 1266679808#32 = ((16777216 : ℝ) : EReal) := by
  constructor <;> simp [Ideal.ofBits, Ideal.ieee, -EReal.coe_mul] <;> norm_num

/-- With the fifteen thresholds in `t`, the count at an entry of `x` is the entry's bin. -/
theorem counts_apply (x : FVec Ideal S4194304x4 .f32) (t : FVec Ideal S15 .f32) (ht : ∀ j : Fin 15, t (ix1 j) = (threshold j : EReal))
    (i : Fin 4194304) (l : Fin 4) : counts x t (ix2 i l) = BitVec.ofNat 32 (bin (x (ix2 i l))) := by
  pointwise [counts]
  refine (IndicatorCount.fold_addi_setWidth_eq_card _ _).trans (congrArg (fun s => BitVec.ofNat 32 (Finset.card s)) (Finset.filter_congr fun j _ => ?_))
  refine (StableHlo.Predicate.ofBool_eq_one_iff _).trans (decide_eq_true_iff.trans ?_)
  show t (ix1 j) < x (ix2 i l) ↔ _
  rw [ht]

/-- With the fifteen thresholds in `t`, the weighted sum at row `i` is the number whose 16-bit digits are the row's bins. -/
theorem total_apply (x : FVec Ideal S4194304x4 .f32) (t : FVec Ideal S15 .f32) (ht : ∀ j : Fin 15, t (ix1 j) = (threshold j : EReal))
    (i : Fin 4194304) : total x t (ix1 i) = ((flat (fun l => bin (x (ix2 i l))) : ℝ) : EReal) := by
  have hs (n : ℕ) (hn : n ≤ 15) : FloatOps.sitofp (F := Ideal) FTy.f32 (BitVec.ofNat 32 n) = ((n : ℝ) : EReal) := by
    show (((BitVec.ofNat 32 n).toInt : ℝ) : EReal) = _
    rw [StableHlo.Predicate.toInt_ofNat_small n (by omega), Int.cast_natCast]
  have hp (n : ℕ) (hn : n ≤ 15) :
      Ideal.pow ((65536 : ℝ) : EReal) (FloatOps.sitofp (F := Ideal) FTy.f32 (BitVec.ofNat 32 n)) = (((65536 : ℝ) ^ n : ℝ) : EReal) := by
    rw [hs n hn]
    exact congrArg Real.toEReal (Real.rpow_natCast _ n)
  pointwise [total]
  rw [literals.1]
  simp only [counts_apply x t ht]
  rw [Fin.sum_univ_four]
  rw [hs _ (bin_le _), hs _ (bin_le _), hs _ (bin_le _), hs _ (bin_le _), hp _ (by decide), hp _ (by decide), hp _ (by decide), hp _ (by decide),
    ← EReal.coe_mul, ← EReal.coe_mul, ← EReal.coe_mul, ← EReal.coe_mul, ← EReal.coe_add, ← EReal.coe_add, ← EReal.coe_add, flat]
  congr 1
  push_cast
  norm_num only [Fin.val_zero, Fin.val_one, Fin.val_two, show ((3 : Fin 4) : ℕ) = 3 from rfl]
  ring

/-- The conversion of a natural number below `2 ^ 52` is the word that holds it. -/
theorem asWords_apply (f : FVec Ideal S4194304 .f32) (i : Fin 4194304) (N : ℕ) (hN : N < 2 ^ 52) (hf : f (ix1 i) = ((N : ℝ) : EReal)) :
    asWords f (ix1 i) = BitVec.ofNat 64 N := by
  pointwise [asWords, base]
  rw [literals.2, hf, Ideal.div_coe (by norm_num), (cut N).1, (cut N).2]
  refine Eq.trans ?_ (digits hN)
  refine congrArg₂ (fun a b => BitVec.signExtend 64 a * 16777216#64 + BitVec.signExtend 64 b) (fptosi_natCast ?_) (fptosi_natCast ?_) <;> omega

/-! ## The run -/

/-- The result: at `i`, the 64-bit word whose 16-bit digits are the bins of the four entries of row `i`. -/
theorem result (x : FVec Ideal S4194304x4 .f32) (t : FVec Ideal S15 .f32) (ht : ∀ j : Fin 15, t (ix1 j) = (threshold j : EReal)) :
    asWords (total x t) = fun i => BitVec.ofNat 64 (flat fun l => bin (x (ix2 (i 0) l))) := by
  funext i
  rw [eq_ix1 i]
  refine asWords_apply _ _ _ ?_ (total_apply x t ht (i 0))
  exact flat_lt fun l => bin_le _

/-- The reference's program runs, returns the composed stages of its arguments, and leaves both arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29)
          = asWords (total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h => h) (Value.run (F := Ideal) m ρ)

end Cert.ReferenceIdeal.Result
-- ==== Proof.Precondition.lean ====
/-
  What the precondition on the arguments says: the second argument holds the fifteen thresholds.
-/
module

public import proofs.«01_k».proof.Proof.Bins
public import proofs.«01_k».proof.Proof.Gen.Pre_problem_thresholds
public import Idealize.ShloMosaic.Lib.Pointwise
public import Idealize.ShloMosaic.Lib.ReduceAll
public import Idealize.ShloMosaic.Lib.StableHlo.Predicate

@[expose] public section

set_option maxRecDepth 16384

noncomputable section

namespace Cert.Pre_problem_thresholds.Result

open Cert.Pre_problem_thresholds Cert.Pre_problem_thresholds.Gen Idealize.ShloMosaic
open Cert.Bins

/-- The table of the precondition holds the thresholds. -/
theorem table (j : Fin 15) : Ideal.ofBits .f32 (lit0 j) = (threshold j : EReal) := by
  fin_cases j <;> simp [lit0, threshold, Ideal.ofBits, Ideal.ieee, -EReal.coe_mul, -EReal.coe_neg] <;> norm_num

/-- If the precondition holds, entry `j` of the second argument is the `j`-th threshold. -/
theorem thresholds (x : FVec Ideal S4194304x4 .f32) (t : FVec Ideal S15 .f32) (h : fn (F := Ideal) x t = fun _ => 1#1) (j : Fin 15) :
    t (ix1 j) = (threshold j : EReal) := by
  have hs : Subsingleton S_.Idx := ⟨fun a b => funext fun k => k.elim0⟩
  have e := Host.reduce_andi_all _ _ _ _ _ (congrFun h (Shape.Idx.first Facts.h_S_)) (ix1 j)
  have e' : t (ix1 j) = Ideal.ofBits .f32 (lit0 (S15.rowMajor (ix1 j))) :=
    decide_eq_true_iff.1 ((StableHlo.Predicate.ofBool_eq_one_iff _).1 e)
  rw [e', show S15.rowMajor (ix1 j) = j from Fin.ext (Shape.rowMajor_val_one _)]
  exact table j

end Cert.Pre_problem_thresholds.Result
-- ==== Proof.lean ====
/-
  The proof of `Cert.Claim` (proofs.«01_k».proof.Defs). The kernel's program packs the bins of every row's four entries
  into one 64-bit word (Proof/KernelResult.lean), and so does the reference's when its second argument holds the
  thresholds (Proof/ReferenceResult.lean), which is what the precondition says (Proof/Precondition.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_problem_thresholds
public import proofs.«01_k».proof.Proof.Gen.ReferenceIdeal
public import proofs.«01_k».proof.Proof.KernelResult
public import proofs.«01_k».proof.Proof.ReferenceResult
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's program runs, leaves its arguments as they were, and ends with every semaphore at zero. -/
theorem frame_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩ fun r =>
      (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
        ∧ r.2.mem ((c.tc : Thread ReferenceIdeal.nD ReferenceIdeal.τ).loc ReferenceIdeal.main_arg1)
            = m ((c.tc : Thread ReferenceIdeal.nD ReferenceIdeal.τ).loc ReferenceIdeal.main_arg1))
      ∧ r.2.sem = fun _ => 0 :=
  (θ_run _ _ _).mono (fun r h => ⟨fun c => ⟨(h c).2.1, (h c).2.2⟩, sem_eq_zero_of_no_sems (by decide) r.2⟩)
    (ReferenceIdeal.Result.run m ρ)

/-- When the second argument holds the thresholds, both programs return the packed bins of the first argument's rows. -/
theorem equal_results : algebraic_KernelIdeal_ReferenceIdeal_pre_problem_thresholds := by
  intro m g m' g' hpre hargs
  refine ⟨fun c => KernelIdeal.Result.packed (KernelIdeal.Result.points m c), KernelIdeal.Result.run m g, ?_⟩
  refine (θ_run _ _ _).mono (fun r h c => ⟨(h c).1.trans ?_, (h c).2⟩) (ReferenceIdeal.Result.run m' g')
  rw [(hargs c).1, (hargs c).2]
  exact ReferenceIdeal.Result.result _ _ (Pre_problem_thresholds.Result.thresholds _ _ (hpre c))

/-- The three programs leave their arguments as they were and their semaphores at zero, the idealization rewrites nothing
    in the kernel, and the kernel returns what the reference returns. -/
theorem claim : Cert.Claim :=
  ⟨Kernel.Gen.facts, KernelIdeal.Gen.facts, ReferenceIdeal.Gen.facts, Pre_problem_thresholds.Gen.facts,
    fun m ρ _ => Kernel.Gen.frame m ρ, fun m ρ _ => KernelIdeal.Gen.frame m ρ, fun m ρ _ => KernelIdeal.Gen.frame m ρ,
    fun m ρ _ => frame_reference m ρ, fun m ρ _ => frame_reference m ρ, trivial, equal_results⟩

end Cert.Proof

end
